-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "neg" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x16384x8192 : Shape := ⟨3, ![1, 16384, 8192]⟩
abbrev S64 : Shape := ⟨1, ![64]⟩
abbrev S_ : Shape := ⟨0, ![]⟩
abbrev S1x512x128 : Shape := ⟨3, ![1, 512, 128]⟩
abbrev S1x16384x128 : Shape := ⟨3, ![1, 16384, 128]⟩
abbrev S128x16384 : Shape := ⟨2, ![128, 16384]⟩
abbrev S1 : Shape := ⟨1, ![1]⟩
abbrev S512x128 : Shape := ⟨2, ![512, 128]⟩
abbrev S128x512 : Shape := ⟨2, ![128, 512]⟩
abbrev S1x512 : Shape := ⟨2, ![1, 512]⟩
abbrev S512x512 : Shape := ⟨2, ![512, 512]⟩
abbrev S512 : Shape := ⟨1, ![512]⟩

abbrev nBuf : Space → Nat
  | .hbm => 11
  | .vmem => 9
  | .smem => 2
  | _ => 0

abbrev bufTy : (tb : Table) → Fin (tcTables nBuf tb) → BufTy
  | .hbm, ⟨0, _⟩ => ⟨S1x16384x8192, .fp8e4m3⟩
  | .hbm, ⟨1, _⟩ => ⟨S1x16384x8192, .fp8e4m3⟩
  | .hbm, ⟨2, _⟩ => ⟨S1x16384x8192, .fp8e4m3⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S1x16384x8192, .bf16⟩
  | .local _ .vmem, ⟨0, _⟩ => ⟨S1x512x128, .fp8e4m3⟩
  | .local _ .vmem, ⟨1, _⟩ => ⟨S1x512x128, .fp8e4m3⟩
  | .local _ .vmem, ⟨2, _⟩ => ⟨S1x16384x128, .fp8e4m3⟩
  | .local _ .vmem, ⟨3, _⟩ => ⟨S1x16384x128, .fp8e4m3⟩
  | .local _ .vmem, ⟨4, _⟩ => ⟨S1x16384x128, .fp8e4m3⟩
  | .local _ .vmem, ⟨5, _⟩ => ⟨S1x16384x128, .fp8e4m3⟩
  | .local _ .vmem, ⟨6, _⟩ => ⟨S1x512x128, .bf16⟩
  | .local _ .vmem, ⟨7, _⟩ => ⟨S1x512x128, .bf16⟩
  | .local _ .vmem, ⟨8, _⟩ => ⟨S128x16384, .bf16⟩
  | .local _ .smem, ⟨0, _⟩ => ⟨S64, .f32⟩
  | .local _ .smem, ⟨1, _⟩ => ⟨S64, .f32⟩
  | _, _ => ⟨S1x16384x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_stg3_0 : Ref sig .tc := ⟨.smem, 0, rfl⟩
abbrev cc0_stg4_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![64, 32], ![false, false]⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 3 → Nat :=
  let c0 : Index := 0#32
  let arg1 : BitVec 32 := BitVec.ofNat 32 (i 1).val
  let c512_i32 : BitVec 32 := 512#32
  let v3 : BitVec 32 := Scalar.muli arg1 c512_i32
  let v4 : Index := Scalar.indexCast v3
  let c0_0 : Index := 0#32
  ![0, v4.toNat, 0]
def k0_off3 (i : grid0.Coords) : Fin 2 → Nat :=
  let c0_1 : Index := 0#32
  let arg1 : BitVec 32 := BitVec.ofNat 32 (i 1).val
  let c512_i32 : BitVec 32 := 512#32
  let v3 : BitVec 32 := Scalar.muli arg1 c512_i32
  let v9 : Index := Scalar.indexCast v3
  ![0, v9.toNat]
@[reducible] def k0_t1_loop (i : grid0.Coords) : Scf.Loop 32 :=
  let c0_i32 : BitVec 32 := 0#32
  let arg1 : BitVec 32 := BitVec.ofNat 32 (i 1).val
  let v18 : BitVec 32 := Scalar.subi arg1 c0_i32
  let c1_i32 : BitVec 32 := 1#32
  let v20 : BitVec 32 := Scalar.divsi v18 c1_i32
  let v21 : BitVec 32 := Scalar.muli v20 c1_i32
  let v22 : BitVec 32 := Scalar.addi c0_i32 v21
  let c1_i32_8 : BitVec 32 := 1#32
  ⟨c0_i32, v22, c1_i32_8⟩
def k0_off4 (i : grid0.Coords) (k0_t1 : Fin (k0_t1_loop i).trips) : Fin 3 → Nat :=
  let c0_23 : Index := 0#32
  let c0_i32 : BitVec 32 := 0#32
  let c1_i32_8 : BitVec 32 := 1#32
  let arg9 : BitVec 32 := Scf.iv c0_i32 c1_i32_8 k0_t1
  let c512_i32_22 : BitVec 32 := 512#32
  let v67 : BitVec 32 := Scalar.muli arg9 c512_i32_22
  let v68 : Index := Scalar.indexCast v67
  let c0_24 : Index := 0#32
  ![0, v68.toNat, 0]
def k0_off5 (i : grid0.Coords) (k0_t1 : Fin (k0_t1_loop i).trips) : Fin 2 → Nat :=
  let c0_28 : Index := 0#32
  let c0_i32 : BitVec 32 := 0#32
  let c1_i32_8 : BitVec 32 := 1#32
  let arg9 : BitVec 32 := Scf.iv c0_i32 c1_i32_8 k0_t1
  let c512_i32_22 : BitVec 32 := 512#32
  let v67 : BitVec 32 := Scalar.muli arg9 c512_i32_22
  let v86 : Index := Scalar.indexCast v67
  ![0, v86.toNat]
@[reducible] def k0_t2_loop (i : grid0.Coords) : Scf.Loop 32 :=
  let c0_i32 : BitVec 32 := 0#32
  let arg1 : BitVec 32 := BitVec.ofNat 32 (i 1).val
  let v18 : BitVec 32 := Scalar.subi arg1 c0_i32
  let c1_i32 : BitVec 32 := 1#32
  let v20 : BitVec 32 := Scalar.divsi v18 c1_i32
  let v21 : BitVec 32 := Scalar.muli v20 c1_i32
  let v22 : BitVec 32 := Scalar.addi c0_i32 v21
  let v19 : BitVec 32 := Scalar.addi c0_i32 v18
  let c1_i32_9 : BitVec 32 := 1#32
  ⟨v22, v19, c1_i32_9⟩
def k0_off6 (i : grid0.Coords) (k0_t2 : Fin (k0_t2_loop i).trips) : Fin 3 → Nat :=
  let c0_23 : Index := 0#32
  let c0_i32 : BitVec 32 := 0#32
  let arg1 : BitVec 32 := BitVec.ofNat 32 (i 1).val
  let v18 : BitVec 32 := Scalar.subi arg1 c0_i32
  let c1_i32 : BitVec 32 := 1#32
  let v20 : BitVec 32 := Scalar.divsi v18 c1_i32
  let v21 : BitVec 32 := Scalar.muli v20 c1_i32
  let v22 : BitVec 32 := Scalar.addi c0_i32 v21
  let c1_i32_9 : BitVec 32 := 1#32
  let arg9 : BitVec 32 := Scf.iv v22 c1_i32_9 k0_t2
  let c512_i32_22 : BitVec 32 := 512#32
  let v67 : BitVec 32 := Scalar.muli arg9 c512_i32_22
  let v68 : Index := Scalar.indexCast v67
  let c0_24 : Index := 0#32
  ![0, v68.toNat, 0]
def k0_off7 (i : grid0.Coords) (k0_t2 : Fin (k0_t2_loop i).trips) : Fin 2 → Nat :=
  let c0_28 : Index := 0#32
  let c0_i32 : BitVec 32 := 0#32
  let arg1 : BitVec 32 := BitVec.ofNat 32 (i 1).val
  let v18 : BitVec 32 := Scalar.subi arg1 c0_i32
  let c1_i32 : BitVec 32 := 1#32
  let v20 : BitVec 32 := Scalar.divsi v18 c1_i32
  let v21 : BitVec 32 := Scalar.muli v20 c1_i32
  let v22 : BitVec 32 := Scalar.addi c0_i32 v21
  let c1_i32_9 : BitVec 32 := 1#32
  let arg9 : BitVec 32 := Scf.iv v22 c1_i32_9 k0_t2
  let c512_i32_22 : BitVec 32 := 512#32
  let v67 : BitVec 32 := Scalar.muli arg9 c512_i32_22
  let v86 : Index := Scalar.indexCast v67
  ![0, v86.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S1x512x128 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16384x128 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16384x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .smem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .smem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "log2e" => some (((Real.log 2)⁻¹ : ℝ) : EReal)
  | "neg" => some ⊥
  | _ => none
-- ==== ReferenceIdeal.lean ====
abbrev S1x16384x8192 : Shape := ⟨3, ![1, 16384, 8192]⟩
abbrev S64 : Shape := ⟨1, ![64]⟩
abbrev S16384x64x128 : Shape := ⟨3, ![16384, 64, 128]⟩
abbrev S64x16384x128 : Shape := ⟨3, ![64, 16384, 128]⟩
abbrev S64x1x1 : Shape := ⟨3, ![64, 1, 1]⟩
abbrev S64x16384x16384 : Shape := ⟨3, ![64, 16384, 16384]⟩
abbrev S16384x16384 : Shape := ⟨2, ![16384, 16384]⟩
abbrev S1x16384x16384 : Shape := ⟨3, ![1, 16384, 16384]⟩
abbrev S64x16384 : Shape := ⟨2, ![64, 16384]⟩
abbrev S64x16384x1 : Shape := ⟨3, ![64, 16384, 1]⟩

abbrev nBuf : Space → Nat
  | .hbm => 7
  | .vmem => 7
  | .smem => 0
  | _ => 0

abbrev bufTy : (tb : Table) → Fin (tcTables nBuf tb) → BufTy
  | .hbm, ⟨0, _⟩ => ⟨S1x16384x8192, .fp8e4m3⟩
  | .hbm, ⟨1, _⟩ => ⟨S1x16384x8192, .fp8e4m3⟩
  | .hbm, ⟨2, _⟩ => ⟨S1x16384x8192, .fp8e4m3⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S1x16384x8192, .bf16⟩
  | .local _ .vmem, ⟨0, _⟩ => ⟨S1x16384x8192, .fp8e4m3⟩
  | .local _ .vmem, ⟨1, _⟩ => ⟨S1x16384x8192, .fp8e4m3⟩
  | .local _ .vmem, ⟨2, _⟩ => ⟨S1x16384x8192, .fp8e4m3⟩
  | .local _ .vmem, ⟨3, _⟩ => ⟨S64, .f32⟩
  | .local _ .vmem, ⟨4, _⟩ => ⟨S64, .f32⟩
  | .local _ .vmem, ⟨5, _⟩ => ⟨S64, .f32⟩
  | .local _ .vmem, ⟨6, _⟩ => ⟨S1x16384x8192, .bf16⟩
  | _, _ => ⟨S1x16384x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x16384x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x16384x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x16384x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x16384x8192 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KernelFrame.lean ====
/-
  The frame of the kernel as printed, at any values: it runs to its end, leaves its argument arrays as they were and
  every semaphore counter at zero.

  At each grid point the body is run once at symbolic contents: its two counted loops by the invariants stated for
  them, the scratch found at anything and left at anything (the class invariant `Pipeline.ΦA`), and the output block
  forgotten, since the frame does not read it.
-/
module

public import proofs.«01_k».proof.Proof.Gen.Kernel.Frame
public import proofs.«01_k».proof.Proof.Gen.Kernel.Loops
public import Idealize.ShloMosaic.Lib.Pipeline.FrameBody
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body at a grid point -/

set_option maxHeartbeats 4000000 in
/-- The body at grid coordinates `i`, every memref held whole: the five inputs come back as they were, the output and
    the scratch at some contents. -/
theorem body_runs (c : Dev nD) (E : Set ℕ) (i : grid0.Coords) (arg2 : Memref sig .tc .vmem S1x512x128 .fp8e4m3) (harg2 : arg2.IsWhole) (arg3 : Memref sig .tc .vmem S1x16384x128 .fp8e4m3) (harg3 : arg3.IsWhole) (arg4 : Memref sig .tc .vmem S1x16384x128 .fp8e4m3) (harg4 : arg4.IsWhole) (arg5 : Memref sig .tc .smem S64 .f32) (harg5 : arg5.IsWhole) (arg6 : Memref sig .tc .smem S64 .f32) (harg6 : arg6.IsWhole) (arg7 : Memref sig .tc .vmem S1x512x128 .bf16) (harg7 : arg7.IsWhole) (arg8 : Memref sig .tc .vmem S128x16384 .bf16) (harg8 : arg8.IsWhole)
    (x0 : Vec F S1x512x128 .fp8e4m3) (x1 x2 : Vec F S1x16384x128 .fp8e4m3) (x3 x4 : Vec F S64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)) -∗ K ⟨⟩))
      ⊢ wp frame (wpE (defs₀ (F := F)) Variants.none c none) E (cc0_fp8_causal_attention i arg2 harg2 arg3 harg3 arg4 harg4 arg5 harg5 arg6 harg6 arg7 harg7 arg8 harg8) K := by
  simp only [cc0_fp8_causal_attention_eq_skeleton]; unfold cc0_fp8_causal_attention_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d8, %f8, -, H8⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; iexists _; isplitr
    swap; · iexact H5
    ipureintro; rfl
  iexists _; iexists _; isplitr
  swap; · iexact H8
  ipureintro; rfl

/-! ## The pipeline's proof data -/

/-- The one window whose contents the frame says nothing of: the output's. -/
def forgets (w : Fin cfg0.W) : Bool := match w with
  | ⟨0, _⟩ | ⟨1, _⟩ | ⟨2, _⟩ | ⟨3, _⟩ | ⟨4, _⟩ => false
  | ⟨5, _⟩ => true

/-- The proof data on core `c`: the arrays as the region finds them, each input's block left in place, what the body
    leaves in the output's block unnamed, the scratch at some contents throughout; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ d, owns (c : Thread nD τ) (st0_5 t) fullShare d))

/-- The class invariant, opened: the scratch at some contents and the generator register at some state. -/
theorem PhiA_eq (c : Dev nD) : (Pipeline.ΦA spec0 c : sProp 𝕄)
    = iprop((∃ d, owns (c : Thread nD τ) (Memref.whole cc0_scratch0) fullShare d) ∗ (∃ r, prngReg c r)) := by
  unfold Pipeline.ΦA; rw [scopedRest0_eq]; simp only [owns_whole]; try rfl

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq,
    after0_0, after0_1, after0_2, after0_3, after0_4]
  iintro ⟨⟨HS, Hg⟩, Ho, ⟨%d0, H0⟩, ⟨%d1, H1⟩, ⟨%d2, H2⟩, ⟨%d3, H3⟩, ⟨%d4, H4⟩, H5⟩
  iapply (body_runs c Set.univ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexact H5
  isplitl [HS]; · iexact HS
  iintro ⟨H0, H1, H2, H3, H4, H5, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point, the output forgotten. -/
theorem body_obligation (c : Dev nD) :
    BodyObligation (dats (F := F) m 0 c) (defs₀ (F := F)) Variants.none () Set.univ forgets := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding
-- plain definitions in a metavariable's type
set_option backward.isDefEq.respectTransparency.types false in
set_option maxHeartbeats 800000 in
/-- The launch: every array of the pipeline but the output at what it holds, every other buffer untouched, every
    semaphore counter at zero. -/
theorem run_main_quiescent : θ_run defs (onTc (τ := τ) (main (F := F))) (s₀ m ρ)
    (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the argument arrays end as they were launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨
      (Pipeline.RDat.FramePost.arr_in h.1 c 0 rfl).trans (V_main_arg0 m c),
      (Pipeline.RDat.FramePost.arr_in h.1 c 1 rfl).trans (V_main_arg1 m c),
      (Pipeline.RDat.FramePost.arr_in h.1 c 2 rfl).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      (Pipeline.RDat.FramePost.arr_in h.1 c 4 rfl).trans (V_main_arg5 m c)⟩, h.2⟩)
    (run_main_quiescent m ρ)

end Cert.Kernel.Hand

end
-- ==== Proof.Block.lean ====
/-
  What one grid point of the kernel computes, as functions of the blocks it reads: the streaming state over the key
  blocks before the diagonal, and the output block made of that state and the diagonal's key block.
-/
module

public import proofs.«01_k».proof.Proof.Gen.KernelIdeal.Skeleton
public import Idealize.ShloMosaic.Lib.Pipeline.FrameBody
public import Idealize.ShloMosaic.Lib.Pipeline.ValueKit
public import Idealize.ShloMosaic.Lib.Pointwise

@[expose] public section

set_option maxRecDepth 16384

noncomputable section

namespace Cert.KernelIdeal.Hand

open Cert.KernelIdeal Cert.KernelIdeal.Gen
open Idealize.ShloMosaic

variable {F : FTy → Type} [FloatOps F] [Named F]

theorem rows_inb (j : Fin 32) : ∀ a, (![0, 512 * j.val, 0] : Fin 3 → ℕ) a + S1x512x128.size a ≤ S1x16384x128.size a := by
  have := j.isLt
  intro a; fin_cases a <;> simp [S1x512x128, S1x16384x128] <;> omega

theorem cols_inb (j : Fin 32) : ∀ a, (![0, 512 * j.val] : Fin 2 → ℕ) a + S128x512.size a ≤ S128x16384.size a := by
  have := j.isLt
  intro a; fin_cases a <;> simp [S128x512, S128x16384] <;> omega

/-- Rows `512 j … 512 j + 511` of one head's keys or values. -/
def rows (X : Vec F S1x16384x128 .fp8e4m3) (j : Fin 32) : Vec F S1x512x128 .fp8e4m3 :=
  View.ld X (Rect.unit ![0, 512 * j.val, 0] S1x512x128.size (rows_inb j))

/-- Columns `512 j … 512 j + 511` of the scratch, which keeps one head's values transposed. -/
def cols (X : Vec F S128x16384 .bf16) (j : Fin 32) : Vec F S128x512 .bf16 :=
  View.ld X (Rect.unit ![0, 512 * j.val] S128x512.size (cols_inb j))

/-- One head's entry of a table of 64 scales. -/
def entry (X : Vec F S64 .f32) (h : Fin 64) : Elt F .f32 := X (ix1 h)

/-- The streaming state: each query's running maximum, running mass and unnormalized output. -/
abbrev State (F : FTy → Type) [FloatOps F] : Type := FVec F S1x512 .f32 × FVec F S1x512 .f32 × FVec F S128x512 .f32

/-- The state after key block `j`, from the state before it. -/
def step (c : Elt F .f32) (q : Vec F S1x512x128 .fp8e4m3) (K V : Vec F S1x16384x128 .fp8e4m3) (j : Fin 32) (s : State F) :
    State F :=
  (k0_pay9 c q s.1 (rows K j), k0_pay12 c q s.1 s.2.1 (rows K j),
    k0_pay13 c q s.1 s.2.2 (rows K j) (k0_pay3 (rows V j)))

/-- The state after the first `n` key blocks. -/
def state (c : Elt F .f32) (q : Vec F S1x512x128 .fp8e4m3) (K V : Vec F S1x16384x128 .fp8e4m3) : ℕ → State F
  | 0 => (k0_pay5, k0_pay6, k0_pay7)
  | n + 1 => if h : n < 32 then step c q K V ⟨n, h⟩ (state c q K V n) else state c q K V n

theorem state_succ (c : Elt F .f32) (q : Vec F S1x512x128 .fp8e4m3) (K V : Vec F S1x16384x128 .fp8e4m3) (j : Fin 32) :
    state c q K V (j.val + 1) = step c q K V j (state c q K V j.val) := by
  rw [state, dif_pos j.isLt]

/-- The output block of query block `i`: the state after the key blocks before it, the diagonal block under the causal
    mask taken in, the mass divided out and the output scale multiplied in. -/
def outBlock (c vs : Elt F .f32) (q : Vec F S1x512x128 .fp8e4m3) (K V : Vec F S1x16384x128 .fp8e4m3) (i : Fin 32) :
    FVec F S1x512x128 .bf16 :=
  k0_pay1 (state c q K V i.val).1 (state c q K V i.val).2.1 (state c q K V i.val).2.2
    (k0_pay20 c q (rows K i)) (k0_pay3 (rows V i)) vs

end Cert.KernelIdeal.Hand

end
-- ==== Proof.Body.lean ====
/-
  The kernel's body at one grid point, run once at symbolic contents: the inputs come back as they were, the output
  block holds `outBlock`, and the scratch holds the transposed values of every key block up to the diagonal's.
-/
module

public import proofs.«01_k».proof.Proof.Gen.KernelIdeal.Frame
public import proofs.«01_k».proof.Proof.Gen.KernelIdeal.Loops
public import proofs.«01_k».proof.Proof.Block
public import Idealize.ShloMosaic.Lib.Pipeline.FrameBody
public import Idealize.ShloMosaic.Lib.Tactic
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The scratch holds the transposed values of the key blocks before `n`. -/
def Filled (V : Vec F S1x16384x128 .fp8e4m3) (n : ℕ) (S : Vec F S128x16384 .bf16) : Prop :=
  ∀ j : Fin 32, j.val < n → cols S j = k0_pay3 (rows V j)

theorem trip_eq (c : Dev nD) (i : grid0.Coords) (arg2 : Memref sig .tc .vmem S1x512x128 .fp8e4m3) (harg2 : arg2.IsWhole) (arg3 : Memref sig .tc .vmem S1x16384x128 .fp8e4m3) (harg3 : arg3.IsWhole) (arg4 : Memref sig .tc .vmem S1x16384x128 .fp8e4m3) (harg4 : arg4.IsWhole) (arg5 : Memref sig .tc .smem S64 .f32) (harg5 : arg5.IsWhole) (arg6 : Memref sig .tc .smem S64 .f32) (harg6 : arg6.IsWhole) (arg7 : Memref sig .tc .vmem S1x512x128 .bf16) (harg7 : arg7.IsWhole) (arg8 : Memref sig .tc .vmem S128x16384 .bf16) (harg8 : arg8.IsWhole)
    (v1 : Elt F .f32) (v13 : Vec F S1x512x128 .fp8e4m3)
    (X3 : BufTy.Contents (Elt F) arg3.view.ty) (X8 : BufTy.Contents (Elt F) arg8.view.ty) (k : Fin (k0_t1_loop i).trips) (acc : State F) :
    tripR_k0_t1 (F := F) Variants.none c none i arg2 harg2 arg3 harg3 arg4 harg4 arg5 harg5 arg6 harg6 arg7 harg7 arg8 harg8 v1 v13 X3 X8 k acc
      = (k0_pay9 v1 v13 acc.1 (View.readAt (Elt F) arg3.view (Rect.unit (s := S1x16384x128) (k0_off4 i k) S1x512x128.size (k0_off4_inb i k)).toLoadRect X3),
         k0_pay12 v1 v13 acc.1 acc.2.1 (View.readAt (Elt F) arg3.view (Rect.unit (s := S1x16384x128) (k0_off4 i k) S1x512x128.size (k0_off4_inb i k)).toLoadRect X3),
         k0_pay13 v1 v13 acc.1 acc.2.2 (View.readAt (Elt F) arg3.view (Rect.unit (s := S1x16384x128) (k0_off4 i k) S1x512x128.size (k0_off4_inb i k)).toLoadRect X3)
          (View.readAt (Elt F) arg8.view (Rect.unit (s := S128x16384) (k0_off5 i k) S128x512.size (k0_off5_inb i k)).toLoadRect X8)) := by
  unfold tripR_k0_t1 trip_k0_t1
  rfl

/-- The loop over the key blocks before the diagonal makes as many trips as there are such blocks. -/
theorem trips_val (i : grid0.Coords) : (k0_t1_loop i).trips = (i 1).val := by
  have h_c0_i32 : Affine.IsInt 0#32 (0) := Affine.ofNat _ (by omega)
  have r_i1 : (i 1).val < 32 := (i 1).isLt
  have h_arg1 : Affine.IsInt (BitVec.ofNat 32 (i 1).val) (((i 1).val : Int)) := Affine.ofNat _ (by omega)
  have h_v18 : Affine.IsInt _ (((i 1).val : Int)) := Affine.subi h_arg1 h_c0_i32 (by omega)
  have h_c1_i32 : Affine.IsInt 1#32 (1) := Affine.ofNat _ (by omega)
  have h_v20 : Affine.IsInt _ (((i 1).val : Int)) := Affine.divsi h_v18 h_c1_i32 (by omega)
  have h_v21 : Affine.IsInt _ (((i 1).val : Int)) := Affine.muli h_v20 h_c1_i32 (by omega)
  have h_v22 : Affine.IsInt _ (((i 1).val : Int)) := Affine.addi h_c0_i32 h_v21 (by omega)
  have h_c1_i32_8 : Affine.IsInt 1#32 (1) := Affine.ofNat _ (by omega)
  exact Affine.trips_eq h_c0_i32 h_v22 h_c1_i32_8 _ (by omega)

/-- The second loop over the same key blocks, the remainder of an unrolling by one, makes no trip. -/
theorem trips_rest (i : grid0.Coords) : (k0_t2_loop i).trips = 0 := Nat.le_zero.1 (k0_t2_abs i).2.1

/-- Storing key block `i`'s transposed values over the scratch adds it to the blocks the scratch holds. -/
theorem Filled.store {V : Vec F S1x16384x128 .fp8e4m3} {S : Vec F S128x16384 .bf16} (i : Fin 32) (h : Filled V i.val S) :
    Filled V (i.val + 1) (VecWindow.put S ![0, 512 * i.val] S128x512.size (k0_pay3 (rows V i))) := by
  intro j hj
  rcases Nat.lt_or_eq_of_le (Nat.lt_succ_iff.1 hj) with hlt | heq
  · refine (VecWindow.window_put_of_disjoint S _ _ _ _ (cols_inb j) _ 1 (Or.inl ?_)).trans (h j hlt)
    show 512 * j.val + 512 ≤ 512 * i.val
    omega
  · obtain rfl : j = i := Fin.ext heq
    exact VecWindow.window_put_same S _ _ (cols_inb j) _

theorem pay1_congr {m m' l l' : FVec F S1x512 .f32} {a a' : FVec F S128x512 .f32} {s s' : FVec F S512x512 .f32}
    {v v' : Vec F S128x512 .bf16} {w w' : Elt F .f32} (hm : m = m') (hl : l = l') (ha : a = a') (hs : s = s') (hv : v = v')
    (hw : w = w') : k0_pay1 m l a s v w = k0_pay1 m' l' a' s' v' w' := by
  subst hm hl ha hs hv hw; rfl

/-- What the first loop carries after `n` key blocks is the streaming state, the scratch holding their values. -/
theorem loop_state (c : Dev nD) (i : grid0.Coords) (arg2 : Memref sig .tc .vmem S1x512x128 .fp8e4m3) (harg2 : arg2.IsWhole) (arg3 : Memref sig .tc .vmem S1x16384x128 .fp8e4m3) (harg3 : arg3.IsWhole) (arg4 : Memref sig .tc .vmem S1x16384x128 .fp8e4m3) (harg4 : arg4.IsWhole) (arg5 : Memref sig .tc .smem S64 .f32) (harg5 : arg5.IsWhole) (arg6 : Memref sig .tc .smem S64 .f32) (harg6 : arg6.IsWhole) (arg7 : Memref sig .tc .vmem S1x512x128 .bf16) (harg7 : arg7.IsWhole) (arg8 : Memref sig .tc .vmem S128x16384 .bf16) (harg8 : arg8.IsWhole)
    (v1 : Elt F .f32) (v13 : Vec F S1x512x128 .fp8e4m3) (V : Vec F S1x16384x128 .fp8e4m3)
    (X3 : BufTy.Contents (Elt F) arg3.view.ty) (X8 : BufTy.Contents (Elt F) arg8.view.ty)
    (hV : Filled V (i 1).val (arg8.view.read (Elt F) X8)) (n : ℕ) (hn : n ≤ (i 1).val) :
    st_k0_t1 (F := F) Variants.none c none i arg2 harg2 arg3 harg3 arg4 harg4 arg5 harg5 arg6 harg6 arg7 harg7 arg8 harg8 v1 v13 X3 X8 (k0_pay5, k0_pay6, k0_pay7) n
      = state v1 v13 (arg3.view.read (Elt F) X3) V n := by
  induction n with
  | zero => rw [st_k0_t1_zero]; rfl
  | succ n ih =>
    have hi : (i 1).val < 32 := (i 1).isLt
    have hk : n < (k0_t1_loop i).trips := by rw [trips_val]; omega
    rw [st_k0_t1_succ Variants.none c none i arg2 harg2 arg3 harg3 arg4 harg4 arg5 harg5 arg6 harg6 arg7 harg7 arg8 harg8 v1 v13 X3 X8 _ ⟨n, hk⟩, trip_eq, ih (by omega)]
    refine Eq.trans ?_ (state_succ v1 v13 _ V ⟨n, by omega⟩).symm
    have hn : n < 32 := by omega
    have hVn : VecWindow.window (arg8.view.read (Elt F) X8) ![0, 512 * n] S128x512.size (cols_inb ⟨n, hn⟩) = k0_pay3 (rows V ⟨n, hn⟩) :=
      hV ⟨n, hn⟩ (by show n < _; omega)
    have e3 : View.readAt (Elt F) arg3.view (Rect.unit (s := S1x16384x128) (k0_off4 i ⟨n, hk⟩) S1x512x128.size (k0_off4_inb i ⟨n, hk⟩)).toLoadRect X3
        = rows (arg3.view.read (Elt F) X3) ⟨n, hn⟩ := View.readAt_unit _ _ _ (k0_off4_eq i ⟨n, hk⟩) (rows_inb ⟨n, hn⟩)
    have h8 := View.readAt_unit (Val := Elt F) arg8.view X8 (k0_off5_inb i ⟨n, hk⟩) (k0_off5_eq i ⟨n, hk⟩) (cols_inb ⟨n, hn⟩)
    have e8 := h8.trans hVn
    rw [e3, e8]
    rfl

/-- The same after both loops: the second changes nothing. -/
theorem loop_both (c : Dev nD) (i : grid0.Coords) (arg2 : Memref sig .tc .vmem S1x512x128 .fp8e4m3) (harg2 : arg2.IsWhole) (arg3 : Memref sig .tc .vmem S1x16384x128 .fp8e4m3) (harg3 : arg3.IsWhole) (arg4 : Memref sig .tc .vmem S1x16384x128 .fp8e4m3) (harg4 : arg4.IsWhole) (arg5 : Memref sig .tc .smem S64 .f32) (harg5 : arg5.IsWhole) (arg6 : Memref sig .tc .smem S64 .f32) (harg6 : arg6.IsWhole) (arg7 : Memref sig .tc .vmem S1x512x128 .bf16) (harg7 : arg7.IsWhole) (arg8 : Memref sig .tc .vmem S128x16384 .bf16) (harg8 : arg8.IsWhole)
    (v1 : Elt F .f32) (v13 : Vec F S1x512x128 .fp8e4m3) (V : Vec F S1x16384x128 .fp8e4m3)
    (X3 : BufTy.Contents (Elt F) arg3.view.ty) (X8 : BufTy.Contents (Elt F) arg8.view.ty)
    (hV : Filled V (i 1).val (arg8.view.read (Elt F) X8)) :
    st_k0_t2 (F := F) Variants.none c none i arg2 harg2 arg3 harg3 arg4 harg4 arg5 harg5 arg6 harg6 arg7 harg7 arg8 harg8 v1 v13 X3 X8
        (st_k0_t1 (F := F) Variants.none c none i arg2 harg2 arg3 harg3 arg4 harg4 arg5 harg5 arg6 harg6 arg7 harg7 arg8 harg8 v1 v13 X3 X8 (k0_pay5, k0_pay6, k0_pay7) (k0_t1_loop i).trips) (k0_t2_loop i).trips
      = state v1 v13 (arg3.view.read (Elt F) X3) V (i 1).val := by
  rw [trips_rest, st_k0_t2_zero, trips_val]
  exact loop_state c i arg2 harg2 arg3 harg3 arg4 harg4 arg5 harg5 arg6 harg6 arg7 harg7 arg8 harg8 v1 v13 V X3 X8 hV _ le_rfl

/-- A scalar load of a table of scales at head `h`. -/
theorem readAt_entry {sig : RefSig} {κ : Kind} {sp : Space} (v : View sig κ sp S64 .f32) (f : v.ty.Contents (Elt F)) (h : Fin 64)
    {off : Fin 1 → ℕ} (inb : ∀ a, off a + S1.size a ≤ S64.size a) (ho : off = ![h.val]) (p : 0 < S1.numel) :
    View.readAt (Elt F) v (Rect.unit (s := S64) off S1.size inb).toLoadRect f (Shape.Idx.first (s := S1) p) = entry (v.read (Elt F) f) h := by
  subst ho
  refine congrArg (v.read (Elt F) f) (funext fun a => Fin.ext ?_)
  fin_cases a
  rfl

set_option maxHeartbeats 1000000 in
theorem body_runs (c : Dev nD) (E : Set ℕ) (i : grid0.Coords) (arg2 : Memref sig .tc .vmem S1x512x128 .fp8e4m3) (harg2 : arg2.IsWhole) (arg3 : Memref sig .tc .vmem S1x16384x128 .fp8e4m3) (harg3 : arg3.IsWhole) (arg4 : Memref sig .tc .vmem S1x16384x128 .fp8e4m3) (harg4 : arg4.IsWhole) (arg5 : Memref sig .tc .smem S64 .f32) (harg5 : arg5.IsWhole) (arg6 : Memref sig .tc .smem S64 .f32) (harg6 : arg6.IsWhole) (arg7 : Memref sig .tc .vmem S1x512x128 .bf16) (harg7 : arg7.IsWhole) (arg8 : Memref sig .tc .vmem S128x16384 .bf16) (harg8 : arg8.IsWhole)

    (x0 : Vec F S1x512x128 .fp8e4m3) (x1 x2 : Vec F S1x16384x128 .fp8e4m3) (x3 x4 : Vec F S64 .f32) (x8 : Vec F S128x16384 .bf16)
    (hx8 : Filled x2 (i 1).val x8) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare x8
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (outBlock (entry x3 (i 0)) (entry x4 (i 0)) x0 x1 x2 (i 1)) ∗ (∃ d, ⌜Filled x2 ((i 1).val + 1) d⌝ ∗ owns (c : Thread nD τ) arg8 fullShare d)) -∗ K ⟨⟩))
      ⊢ wp frame (wpE (defs₀ (F := F)) Variants.none c none) E (cc0_fp8_causal_attention i arg2 harg2 arg3 harg3 arg4 harg4 arg5 harg5 arg6 harg6 arg7 harg7 arg8 harg8) K := by
  simp only [cc0_fp8_causal_attention_eq_skeleton]; unfold cc0_fp8_causal_attention_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f8, %hf8, H8⟩, Hk⟩
  subst hf0 hf1 hf2 hf3 hf4 hf8
  have e2 : View.readAt (Elt F) arg4.view (Rect.unit (s := S1x16384x128) (k0_off2 i) S1x512x128.size (k0_off2_inb i)).toLoadRect f2
      = rows (arg4.view.read (Elt F) f2) (i 1) := View.readAt_unit _ _ _ (k0_off2_eq i) _
  have e1 : View.readAt (Elt F) arg3.view (Rect.unit (s := S1x16384x128) (k0_off2 i) S1x512x128.size (k0_off2_inb i)).toLoadRect f1
      = rows (arg3.view.read (Elt F) f1) (i 1) := View.readAt_unit _ _ _ (k0_off2_eq i) _
  have e0 : View.readAt (Elt F) arg2.view (Rect.unit (s := S1x512x128) ![0, 0, 0] S1x512x128.size inb_S1x512x128_S1x512x128_0_0_0).toLoadRect f0
      = arg2.view.read (Elt F) f0 := View.readAt_full _ _ _
  have e5 : View.readAt (Elt F) arg5.view (Rect.unit (s := S64) (k0_off1 i) S1.size (k0_off1_inb i)).toLoadRect f3 (Shape.Idx.first (s := S1) (by decide))
      = entry (arg5.view.read (Elt F) f3) (i 0) := readAt_entry _ _ _ _ (k0_off1_eq i) _
  have e6 : View.readAt (Elt F) arg6.view (Rect.unit (s := S64) (k0_off1 i) S1.size (k0_off1_inb i)).toLoadRect f4 (Shape.Idx.first (s := S1) (by decide))
      = entry (arg6.view.read (Elt F) f4) (i 0) := readAt_entry _ _ _ _ (k0_off1_eq i) _
  have eS : arg8.view.read (Elt F) (arg8.view.writes (Elt F) f8 [⟨Rect.unit (s := S128x16384) (k0_off3 i) S128x512.size (k0_off3_inb i),
        k0_pay3 (rows (arg4.view.read (Elt F) f2) (i 1))⟩])
      = VecWindow.put (arg8.view.read (Elt F) f8) ![0, 512 * (i 1).val] S128x512.size (k0_pay3 (rows (arg4.view.read (Elt F) f2) (i 1))) := by
    rw [View.read_writes_cons_put _ _ _ _ _ (k0_off3_eq i), View.writes_nil]
  have hF := hx8.store (i 1)
  rw [← eS] at hF
  have hst := loop_both c i arg2 harg2 arg3 harg3 arg4 harg4 arg5 harg5 arg6 harg6 arg7 harg7 arg8 harg8 (View.readAt (Elt F) arg5.view (Rect.unit (s := S64) (k0_off1 i) S1.size (k0_off1_inb i)).toLoadRect f3 (Shape.Idx.first (s := S1) (by decide)))
    (arg2.view.read (Elt F) f0) _ f1 _ (fun j hj => hF j (Nat.lt_succ_of_lt hj))
  replace hst := hst.trans (congrArg (fun z => state z _ _ _ _) e5)
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_full _ _ _ _ _).trans (pay1_congr ?_ ?_ ?_ ?_ ?_ ?_)
    all_goals sl_unfold_words
    · exact congrArg (fun s : State F => s.1) hst
    · exact congrArg (fun s : State F => s.2.1) hst
    · exact congrArg (fun s : State F => s.2.2) hst
    · exact congrArg (fun z => k0_pay20 z _ _) e5
    · exact View.readCov_cons_toLoadRect _ (Rect.unit (s := S128x16384) (k0_off3 i) S128x512.size (k0_off3_inb i)) _ []
    · exact e6
  iexists _; isplitr
  swap
  · iexists _; isplitr
    swap; · iexact H8
    ipureintro; rfl
  ipureintro
  exact hF

end Cert.KernelIdeal.Hand

end
-- ==== Proof.Run.lean ====
/-
  The run of the kernel with its constants named, at any values. Between grid points the scratch holds the transposed
  values of the key blocks this head has met; the output's block after point (head, query block) is `outBlock` of the
  blocks read there. From it: the frame, and what every array holds at the end.
-/
module

public import proofs.«01_k».proof.Proof.Gen.KernelIdeal.Frame
public import proofs.«01_k».proof.Proof.Body
public import Idealize.ShloMosaic.Lib.Pipeline.FrameBody
public import Idealize.ShloMosaic.Lib.Tactic
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The grid and the values' blocks -/

theorem coords_head (t : Fin cfg0.N) : (cfg0.grid.coords t 0).val = t.val / 32 % 64 :=
  Pipeline.Grid.coords_val t 0 (by decide) rfl
theorem coords_query (t : Fin cfg0.N) : (cfg0.grid.coords t 1).val = t.val % 32 :=
  (Pipeline.Grid.coords_val (S := 1) (B := 32) t 1 (by decide) rfl).trans (by rw [Nat.div_one])

/-- The block each window is at, point by point. -/
theorem idx : ∀ t : Fin cfg0.N, win0_0.index t = ![0, t.val % 32, t.val / 32] ∧ win0_1.index t = ![0, 0, t.val / 32]
    ∧ win0_2.index t = ![0, 0, t.val / 32] ∧ win0_3.index t = ![0] ∧ win0_4.index t = ![0]
    ∧ win0_5.index t = ![0, t.val % 32, t.val / 32] :=
  (by decide +kernel : ∀ t : Fin grid0.N, _)

/-- Head `h`'s columns of the keys or the values: its 128 features at every position. -/
def headOf (A : Vec F S1x16384x8192 .fp8e4m3) (h : Fin 64) : Vec F S1x16384x128 .fp8e4m3 := fun y =>
  A (ix3 0 (y 1) ⟨128 * h.val + (y 2).val, by have h1 := h.isLt; have h2 : (y 2).val < 128 := (y 2).isLt; omega⟩)

/-- The values' block at point `t` is its head's values. -/
theorem iblk_values (c : Dev nD) (t : Fin cfg0.N) :
    (iblk m c 2 t : Vec F S1x16384x128 .fp8e4m3) = headOf (V m c main_arg2) (cfg0.grid.coords t 0) := by
  have h0 : (grid0.coords t 0).val = t.val / 32 % 64 := coords_head t
  have hN : t.val < 2048 := t.isLt
  funext y
  unfold headOf
  blk_ext [iblk, V, idx t]

/-! ## The pipeline's proof data -/

/-- What the scratch holds before point `n`: the transposed values of the key blocks this point's head has met. -/
def Scratch (c : Dev nD) (n : ℕ) (d : Vec F S128x16384 .bf16) : Prop :=
  ∀ h : n < cfg0.N, Filled (headOf (V m c main_arg2) (cfg0.grid.coords ⟨n, h⟩ 0)) (cfg0.grid.coords ⟨n, h⟩ 1).val d

/-- The invariant before point `n`: the scratch at such contents, the generator register at some state. -/
def inv (c : Dev nD) (n : ℕ) : sProp 𝕄 :=
  iprop((∃ d, ⌜Scratch m c n d⌝ ∗ owns (c : Thread nD τ) (Memref.whole cc0_scratch0) fullShare d) ∗ (∃ r, prngReg c r))

/-- What the body leaves in the output's block at point `t`. -/
def outAt (c : Dev nD) (t : Fin cfg0.N) : FVec F S1x512x128 .bf16 :=
  outBlock (entry (iblk m c 3 t) (cfg0.grid.coords t 0)) (entry (iblk m c 4 t) (cfg0.grid.coords t 0))
    (iblk m c 0 t) (iblk m c 1 t) (iblk m c 2 t) (cfg0.grid.coords t 1)

/-- The scratch after a point is as the next point asks: the same head one key block on, or another head at its
    first query block, which asks nothing. -/
theorem Scratch.next (c : Dev nD) (t : Fin cfg0.N) (d : Vec F S128x16384 .bf16)
    (hd : Filled (headOf (V m c main_arg2) (cfg0.grid.coords t 0)) ((cfg0.grid.coords t 1).val + 1) d) : Scratch m c (t.val + 1) d := by
  intro h j hj
  have h1 := coords_head t; have h2 := coords_query t
  have h3 : (cfg0.grid.coords ⟨t.val + 1, h⟩ 0).val = (t.val + 1) / 32 % 64 := coords_head ⟨t.val + 1, h⟩
  have h4 : (cfg0.grid.coords ⟨t.val + 1, h⟩ 1).val = (t.val + 1) % 32 := coords_query ⟨t.val + 1, h⟩
  have hN : t.val + 1 < 2048 := h
  rw [h4] at hj
  have e : cfg0.grid.coords ⟨t.val + 1, h⟩ 0 = cfg0.grid.coords t 0 := Fin.ext (by rw [h1, h3]; omega)
  rw [e]
  exact hd j (by rw [h2]; omega)

/-- The proof data on core `c`: the arrays as the region finds them, each input's block left in place, the output's
    block after each point, the invariant; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := inv m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

theorem after0_5 (c : Dev nD) (t : Fin cfg0.N) : (dats m 0 c).after 5 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The class invariant, opened: the scratch at some contents and the generator register at some state. -/
theorem PhiA_eq (c : Dev nD) : (Pipeline.ΦA spec0 c : sProp 𝕄)
    = iprop((∃ d, owns (c : Thread nD τ) (Memref.whole cc0_scratch0) fullShare d) ∗ (∃ r, prngReg c r)) := by
  unfold Pipeline.ΦA; rw [scopedRest0_eq]; simp only [owns_whole]; try rfl

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = inv m c (t.val + 1) from rfl,
    show (dats m 0 c).owesAt () t.succ = (dats m 0 c).owesAt () t.castSucc from rfl,
    show (dats m 0 c).Φ t.castSucc = inv m c t.val from rfl,
    after0_0, after0_1, after0_2, after0_3, after0_4, after0_5]
  unfold inv
  iintro ⟨⟨⟨%d8, %hd8, HS⟩, Hg⟩, Ho, ⟨%d0, H0⟩, ⟨%d1, H1⟩, ⟨%d2, H2⟩, ⟨%d3, H3⟩, ⟨%d4, H4⟩, ⟨%d5, H5⟩⟩
  iapply (body_runs c Set.univ (cfg0.grid.coords t) _ _ _ _ _ _ _ _ _ _ _ _ _ _ (iblk m c 0 t) (iblk m c 1 t) (iblk m c 2 t) (iblk m c 3 t) (iblk m c 4 t) d8
    (by rw [iblk_values]; exact hd8 t.isLt) _)
  isplitl [H0]; · iexact H0
  isplitl [H1]; · iexact H1
  isplitl [H2]; · iexact H2
  isplitl [H3]; · iexact H3
  isplitl [H4]; · iexact H4
  isplitl [H5]; · iexists _; iexact H5
  isplitl [HS]; · iexact HS
  iintro ⟨H0, H1, H2, H3, H4, H5, ⟨%d8', %hd8', HS⟩⟩
  isplitl [HS Hg]
  · isplitl [HS]
    · iexists d8'; isplitr
      · ipureintro; rw [iblk_values] at hd8'; exact Scratch.next m c t d8' hd8'
      iexact HS
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

/-- The first point asks nothing of the scratch, -/
theorem inv_first (c : Dev nD) : Pipeline.ΦA spec0 c ⊢ inv m c 0 := by
  rw [PhiA_eq]; unfold inv
  iintro ⟨⟨%d, HS⟩, Hg⟩
  isplitl [HS]
  · iexists d; isplitr
    · ipureintro
      intro h j hj
      have h0 : (cfg0.grid.coords ⟨0, h⟩ 1).val = 0 % 32 := coords_query ⟨0, h⟩
      rw [h0] at hj
      exact absurd hj (Nat.not_lt_zero _)
    iexact HS
  iexact Hg

/-- and at the end its contents are forgotten. -/
theorem inv_last (c : Dev nD) (n : ℕ) : inv m c n ⊢ Pipeline.ΦA spec0 c := by
  rw [PhiA_eq]; unfold inv
  iintro ⟨⟨%d, -, HS⟩, Hg⟩
  isplitl [HS]
  · iexists d; iexact HS
  iexact Hg

/-! ## The run and the frame -/

set_option backward.isDefEq.respectTransparency.types false in
set_option maxHeartbeats 800000 in
/-- The launch: every array of the pipeline at what it holds, every other buffer untouched, every semaphore counter at
    zero. -/
theorem run_main_quiescent : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := inv_first m) (hout := fun c => inv_last m c _)

/-- What the launch establishes leaves the argument arrays as they were. -/
theorem kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).1 4).trans (((dats m 0 c).arrAt_in 4 rfl _).trans ((A_eq m c 4).trans (V_main_arg5 m c)))⟩

/-- The frame: the argument arrays end as they were launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨kept m r h.1, h.2⟩) (run_main_quiescent m ρ)

end Cert.KernelIdeal.Hand

end
-- ==== Proof.Math.lean ====
/-
  The arithmetic of the equation, of no program: folding keys in block by block gives the softmax taken at once.
-/
module

public import Idealize.ShloMosaic.PureOps.Ideal
public import Idealize.ShloMosaic.Lib.Pointwise

/-! # The online softmax over the extended reals

One query against blocks of `T` keys. `s j k` is the score of key `k` of block `j` and `w j k` the value it weighs.
Nothing is assumed of either: a score or a value may be infinite. -/

@[expose] public section

noncomputable section

namespace Cert.Online

open Idealize.ShloMosaic

/-! ## The exponential of a difference -/

/-- The weight of a score `s` against a running maximum `m`. -/
def weight (s m : EReal) : EReal := Ideal.exp2 (s - m)

theorem weight_bot (m : EReal) : weight ⊥ m = 0 := by simp [weight]

/-- Against a maximum at least as large, a weight is a real number that is not negative. -/
theorem weight_real {s m : EReal} (h : s ≤ m) : ∃ r : ℝ, 0 ≤ r ∧ weight s m = (r : EReal) := by
  induction s using EReal.rec with
  | bot => exact ⟨0, le_rfl, by simp [weight]⟩
  | top => exact ⟨0, le_rfl, by obtain rfl := top_le_iff.mp h; simp [weight]⟩
  | coe x =>
    induction m using EReal.rec with
    | bot => exact absurd (le_bot_iff.mp h) (EReal.coe_ne_bot x)
    | top => exact ⟨0, le_rfl, by simp [weight]⟩
    | coe y =>
      exact ⟨Real.rpow 2 (x - y), Real.rpow_nonneg (by norm_num) _, by rw [weight, ← EReal.coe_sub, Ideal.exp2_coe]⟩

theorem weight_nonneg {s m : EReal} (h : s ≤ m) : 0 ≤ weight s m := by
  obtain ⟨r, hr, e⟩ := weight_real h
  rw [e]
  exact_mod_cast hr

theorem weight_ne_top {s m : EReal} (h : s ≤ m) : weight s m ≠ ⊤ := by
  obtain ⟨r, _, e⟩ := weight_real h
  rw [e]
  exact EReal.coe_ne_top r

/-- Raising the maximum from `m` to `m'` multiplies every weight by the weight of `m` against `m'`. -/
theorem weight_mul {s m m' : EReal} (h : s ≤ m) (h' : m ≤ m') : weight s m * weight m m' = weight s m' := by
  induction m using EReal.rec with
  | bot => obtain rfl := le_bot_iff.mp h; simp [weight]
  | top =>
    obtain rfl := top_le_iff.mp h'
    induction s using EReal.rec <;> simp [weight]
  | coe y =>
    induction s using EReal.rec with
    | bot => simp [weight]
    | top => exact absurd (top_le_iff.mp h) (EReal.coe_ne_top y)
    | coe x =>
      induction m' using EReal.rec with
      | bot => exact absurd (le_bot_iff.mp h') (EReal.coe_ne_bot y)
      | top => simp [weight]
      | coe z =>
        have e : Real.rpow 2 (x - y) * Real.rpow 2 (y - z) = Real.rpow 2 (x - z) := by
          have := Real.rpow_add (x := 2) (by norm_num) (x - y) (y - z)
          rw [show x - y + (y - z) = x - z by ring] at this
          exact this.symm
        rw [weight, weight, weight, ← EReal.coe_sub, ← EReal.coe_sub, ← EReal.coe_sub, Ideal.exp2_coe, Ideal.exp2_coe,
          Ideal.exp2_coe, ← EReal.coe_mul, e]

/-! ## Sums and maxima -/

/-- A factor that is real and not negative distributes over a sum, whatever its terms. -/
theorem sum_mul {ι : Type*} (t : Finset ι) (f : ι → EReal) {c : EReal} (h0 : 0 ≤ c) (ht : c ≠ ⊤) :
    (∑ i ∈ t, f i) * c = ∑ i ∈ t, f i * c := by
  classical
  induction t using Finset.induction_on with
  | empty => simp
  | insert a t ha ih =>
    rw [Finset.sum_insert ha, Finset.sum_insert ha, EReal.right_distrib_of_nonneg_of_ne_top h0 ht, ih]

/-- A folded maximum is below exactly the bounds of its start and of its members. -/
theorem fold_max_le {ι : Type*} (t : Finset ι) (b u : EReal) (f : ι → EReal) :
    t.fold max b f ≤ u ↔ b ≤ u ∧ ∀ i ∈ t, f i ≤ u :=
  Finset.fold_max_le u

/-! ## The running triple -/

variable {T : ℕ}

/-- After `n` blocks: `m` is the least bound of the scores, `l` the sum of the weights against it and `a` the sum of
    the weighted values. -/
structure Inv (s w : ℕ → Fin T → EReal) (n : ℕ) (m l a : EReal) : Prop where
  le : ∀ j < n, ∀ k, s j k ≤ m
  least : ∀ u, (∀ j < n, ∀ k, s j k ≤ u) → m ≤ u
  mass : l = ∑ j ∈ Finset.range n, ∑ k, weight (s j k) m
  acc : a = ∑ j ∈ Finset.range n, ∑ k, w j k * weight (s j k) m

/-- Before any block. -/
theorem Inv.zero (s w : ℕ → Fin T → EReal) : Inv s w 0 ⊥ 0 0 :=
  ⟨fun _ h => absurd h (by omega), fun _ _ => bot_le, by simp, by simp⟩

/-- The maximum after one more block. -/
def nextMax (m : EReal) (s : Fin T → EReal) : EReal := max m (Finset.univ.fold max ⊥ s)

/-- The mass after one more block. -/
def nextMass (m l : EReal) (s : Fin T → EReal) : EReal :=
  l * weight m (nextMax m s) + ∑ k, weight (s k) (nextMax m s)

/-- The weighted sum after one more block. -/
def nextAcc (m a : EReal) (s w : Fin T → EReal) : EReal :=
  a * weight m (nextMax m s) + ∑ k, w k * weight (s k) (nextMax m s)

/-- One block more: the old sums are rescaled to the new maximum and the block's own terms are added. -/
theorem Inv.succ {s w : ℕ → Fin T → EReal} {n : ℕ} {m l a : EReal} (h : Inv s w n m l a) :
    Inv s w (n + 1) (nextMax m (s n)) (nextMass m l (s n)) (nextAcc m a (s n) (w n)) := by
  have hm : m ≤ nextMax m (s n) := le_max_left _ _
  have hs : ∀ k, s n k ≤ nextMax m (s n) := fun k =>
    ((fold_max_le _ _ _ _).mp (le_max_right m (Finset.univ.fold max ⊥ (s n)))).2 k (Finset.mem_univ k)
  have h0 := weight_nonneg hm
  have ht := weight_ne_top hm
  refine ⟨fun j hj k => ?_, fun u hu => ?_, ?_, ?_⟩
  · rcases Nat.lt_succ_iff_lt_or_eq.mp hj with hj | rfl
    · exact (h.le j hj k).trans hm
    · exact hs k
  · refine max_le (h.least u fun j hj => hu j (by omega)) ((fold_max_le _ _ _ _).mpr ⟨bot_le, fun k _ => ?_⟩)
    exact hu n (by omega) k
  · rw [nextMass, Finset.sum_range_succ, h.mass, sum_mul _ _ h0 ht]
    congr 1
    refine Finset.sum_congr rfl fun j hj => ?_
    rw [sum_mul _ _ h0 ht]
    exact Finset.sum_congr rfl fun k _ => weight_mul (h.le j (Finset.mem_range.mp hj) k) hm
  · rw [nextAcc, Finset.sum_range_succ, h.acc, sum_mul _ _ h0 ht]
    congr 1
    refine Finset.sum_congr rfl fun j hj => ?_
    rw [sum_mul _ _ h0 ht]
    refine Finset.sum_congr rfl fun k _ => ?_
    rw [mul_assoc, weight_mul (h.le j (Finset.mem_range.mp hj) k) hm]

/-- Scores that agree on the blocks already folded fold to the same triple. -/
theorem Inv.congr {s s' w w' : ℕ → Fin T → EReal} {n : ℕ} {m l a : EReal} (h : Inv s w n m l a)
    (hs : ∀ j < n, s j = s' j) (hw : ∀ j < n, w j = w' j) : Inv s' w' n m l a := by
  refine ⟨fun j hj k => hs j hj ▸ h.le j hj k, fun u hu => h.least u fun j hj k => hs j hj ▸ hu j hj k, ?_, ?_⟩
  · rw [h.mass]
    exact Finset.sum_congr rfl fun j hj => by rw [hs j (Finset.mem_range.mp hj)]
  · rw [h.acc]
    exact Finset.sum_congr rfl fun j hj => by rw [hs j (Finset.mem_range.mp hj), hw j (Finset.mem_range.mp hj)]

/-- Blocks whose scores are all `⊥` weigh nothing and may be added or left out. -/
theorem Inv.extend {s w : ℕ → Fin T → EReal} {n N : ℕ} {m l a : EReal} (h : Inv s w n m l a) (hN : n ≤ N)
    (hb : ∀ j, n ≤ j → ∀ k, s j k = ⊥) : Inv s w N m l a := by
  have hz : ∀ j ∈ Finset.range N, j ∉ Finset.range n → ∀ k, weight (s j k) m = 0 := fun j _ hj k => by
    rw [hb j (by simpa using hj) k, weight_bot]
  refine ⟨fun j hj k => ?_, fun u hu => h.least u fun j hj => hu j (by omega), ?_, ?_⟩
  · by_cases hn : j < n
    · exact h.le j hn k
    · rw [hb j (by omega) k]
      exact bot_le
  · rw [h.mass]
    exact Finset.sum_subset (Finset.range_subset_range.mpr hN) fun j hj hj' =>
      Finset.sum_eq_zero fun k _ => hz j hj hj' k
  · rw [h.acc]
    refine Finset.sum_subset (Finset.range_subset_range.mpr hN) fun j hj hj' =>
      Finset.sum_eq_zero fun k _ => ?_
    rw [hz j hj hj' k, mul_zero]

/-- What the kernel writes of the triple: the weighted sum times the quotient of the scale and the mass. -/
def written (l a c : EReal) : EReal := a * Ideal.div c l

/-! ## The whole softmax -/

variable {N : ℕ}

/-- The divisor of the weights: the mass, or one where there is no mass. -/
def divisor (g : EReal) : EReal := if g = 0 then 1 else g

/-- The weighted mean of the values `v` under the scores `y`, taken at once: exponentials against the greatest score,
    divided by their sum. -/
def mean (y v : Fin N → EReal) : EReal :=
  ∑ j, Ideal.div (Ideal.exp (y j - Finset.univ.fold max ⊥ y))
    (divisor (∑ j, Ideal.exp (y j - Finset.univ.fold max ⊥ y))) * v j

/-- The logarithm's conversion factor. -/
abbrev log2e : EReal := (((Real.log 2)⁻¹ : ℝ) : EReal)

theorem log2_pos : (0 : ℝ) < (Real.log 2)⁻¹ := inv_pos.mpr (Real.log_pos (by norm_num))

theorem log2e_pos : (0 : EReal) < log2e := EReal.coe_pos.mpr log2_pos

theorem bot_log2e : (⊥ : EReal) * log2e = ⊥ := EReal.bot_mul_coe_of_pos log2_pos

/-- An exponential of a difference is a weight of the differences' scaled ends. -/
theorem exp_eq_weight (y m : EReal) : Ideal.exp (y - m) = weight (y * log2e) (m * log2e) := by
  have ht : (⊤ : EReal) * log2e = ⊤ := EReal.top_mul_coe_of_pos log2_pos
  induction y using EReal.rec with
  | bot => rw [bot_log2e, weight_bot]; simp
  | top =>
    induction m using EReal.rec with
    | bot => rw [bot_log2e, ht]; simp [weight]
    | top => rw [ht]; simp [weight]
    | coe b => rw [ht, ← EReal.coe_mul, weight, EReal.top_sub_coe, EReal.top_sub_coe]; rfl
  | coe a =>
    induction m using EReal.rec with
    | bot => rw [bot_log2e, ← EReal.coe_mul, weight, EReal.coe_sub_bot, EReal.coe_sub_bot]; rfl
    | top => rw [ht, ← EReal.coe_mul]; simp [weight]
    | coe b =>
      rw [weight, ← EReal.coe_mul, ← EReal.coe_mul, ← EReal.coe_sub, ← EReal.coe_sub, Ideal.exp_coe, Ideal.exp2_coe]
      congr 1
      have hl : Real.log 2 ≠ 0 := (Real.log_pos (by norm_num)).ne'
      rw [Real.rpow_eq_pow, Real.rpow_def_of_pos (by norm_num)]
      congr 1
      field_simp

theorem mul_log2e_le {x y : EReal} : x * log2e ≤ y * log2e ↔ x ≤ y := by
  constructor
  · intro h
    have h' := mul_le_mul_of_nonneg_right h (show (0 : EReal) ≤ ((Real.log 2 : ℝ) : EReal) by
      exact_mod_cast (Real.log_pos (by norm_num)).le)
    have e : log2e * ((Real.log 2 : ℝ) : EReal) = 1 := by
      rw [← EReal.coe_mul, inv_mul_cancel₀ (Real.log_pos (by norm_num)).ne', EReal.coe_one]
    rwa [mul_assoc, mul_assoc, e, mul_one, mul_one] at h'
  · exact fun h => mul_le_mul_of_nonneg_right h log2e_pos.le

/-- A maximum of scaled scores is the scaled maximum. -/
theorem Inv.max_eq {J : ℕ} {s w : ℕ → Fin T → EReal} {m l a : EReal} {y : Fin N → EReal} (hN : J * T = N)
    (h : Inv s w J m l a)
    (hy : ∀ (j : Fin J) (k : Fin T) (hn : j.val * T + k.val < N), s j k = y ⟨j.val * T + k, hn⟩ * log2e) :
    m = Finset.univ.fold max ⊥ y * log2e := by
  subst hN
  have hlt : ∀ (j : Fin J) (k : Fin T), j.val * T + k.val < J * T := fun j k => by
    have := Nat.mul_le_mul_right T (Nat.succ_le_of_lt j.isLt)
    rw [Nat.succ_mul] at this
    have := k.isLt
    omega
  apply le_antisymm
  · refine h.least _ fun j hj k => ?_
    rw [hy ⟨j, hj⟩ k (hlt ⟨j, hj⟩ k), mul_log2e_le]
    exact ((fold_max_le _ _ _ _).mp le_rfl).2 _ (Finset.mem_univ _)
  · have e : m * ((Real.log 2 : ℝ) : EReal) * log2e = m := by
      rw [mul_assoc, ← EReal.coe_mul, mul_inv_cancel₀ (Real.log_pos (by norm_num)).ne', EReal.coe_one, mul_one]
    rw [← e, mul_log2e_le, fold_max_le]
    refine ⟨bot_le, fun i _ => ?_⟩
    rw [← mul_log2e_le, e]
    have hT : 0 < T := by
      rcases Nat.eq_zero_or_pos T with rfl | hT
      · exact absurd i.isLt (by simp)
      · exact hT
    have hj : i.val / T < J := Nat.div_lt_of_lt_mul (i.isLt.trans_eq (Nat.mul_comm J T))
    have hi : i.val / T * T + i.val % T = i.val := Nat.div_add_mod' i.val T
    have hk := hy ⟨i.val / T, hj⟩ ⟨i.val % T, Nat.mod_lt _ hT⟩ (by simp only [hi]; exact i.isLt)
    have hi' : (⟨i.val / T * T + i.val % T, by rw [hi]; exact i.isLt⟩ : Fin (J * T)) = i := Fin.ext hi
    rw [hi'] at hk
    rw [← hk]
    exact h.le _ hj _

/-- The fold over every block, written by the kernel, is the mean taken at once, times the scale. -/
theorem written_eq_mean {J : ℕ} {s w : ℕ → Fin T → EReal} {m l a c : EReal} {y v : Fin N → EReal} (hN : J * T = N)
    (h : Inv s w J m l a)
    (hy : ∀ (j : Fin J) (k : Fin T) (hn : j.val * T + k.val < N), s j k = y ⟨j.val * T + k, hn⟩ * log2e)
    (hv : ∀ (j : Fin J) (k : Fin T) (hn : j.val * T + k.val < N), w j k = v ⟨j.val * T + k, hn⟩) :
    written l a c = mean y v * c := by
  have hm := h.max_eq hN hy
  have hl : l = ∑ j, weight (y j * log2e) m := by
    rw [h.mass, Finset.sum_range, Fin.sum_univ_tiles J T hN]
    exact Finset.sum_congr rfl fun j _ => Finset.sum_congr rfl fun k _ => by rw [hy]
  have ha : a = ∑ j, v j * weight (y j * log2e) m := by
    rw [h.acc, Finset.sum_range, Fin.sum_univ_tiles J T hN]
    exact Finset.sum_congr rfl fun j _ => Finset.sum_congr rfl fun k _ => by rw [hy, hv]
  have hle : ∀ j, y j * log2e ≤ m := fun j => by
    rw [hm, mul_log2e_le]
    exact ((fold_max_le _ _ _ _).mp le_rfl).2 j (Finset.mem_univ j)
  simp only [mean, exp_eq_weight, ← hm, ← hl]
  rw [written, divisor]
  by_cases h0 : l = 0
  · have hz : ∀ j, weight (y j * log2e) m = 0 := fun j =>
      (Finset.sum_eq_zero_iff_of_nonneg fun i _ => weight_nonneg (hle i)).mp (hl.symm.trans h0) j (Finset.mem_univ j)
    simp only [ha, hz, if_pos h0, Ideal.div, one_ne_zero, if_false, zero_mul, mul_zero, Finset.sum_const_zero]
  · have hn : 0 ≤ l := hl ▸ Finset.sum_nonneg fun i _ => weight_nonneg (hle i)
    simp only [if_neg h0, Ideal.div]
    rw [ha, mul_comm c, ← mul_assoc, sum_mul _ _ (EReal.inv_nonneg_of_nonneg hn) (EReal.inv_lt_top l).ne]
    congr 1
    exact Finset.sum_congr rfl fun j _ => by rw [mul_assoc, mul_comm (v j)]

end Cert.Online
-- ==== Proof.KernelValue.lean ====
/-
  The kernel's arithmetic over the extended reals, read at an index: a key block is folded into a query's running
  triple as the online softmax folds it, and the output block is the causal attention of the query against every key.
-/
module

public import proofs.«01_k».proof.Proof.Block
public import proofs.«01_k».proof.Proof.Math
public import Idealize.ShloMosaic.PureOps.IdealRules
public import Idealize.ShloMosaic.Lib.WordCmp

@[expose] public section

set_option maxRecDepth 16384

noncomputable section

namespace Cert.KernelIdeal.Hand

open Cert.KernelIdeal Cert.KernelIdeal.Gen Cert.Online
open Idealize.ShloMosaic

theorem named_log2e : (Named.named κ "log2e" 0x3FB8AA3B#32 : Ideal .f32) = log2e :=
  IdealRules.named_const.ideal_named_scalar _ _ _ _ rfl

theorem named_neg : (Named.named κ "neg" 0xF149F2CA#32 : Ideal .f32) = (⊥ : EReal) :=
  IdealRules.named_const.ideal_named_scalar _ _ _ _ rfl

theorem ofBits_neg_inf : Ideal.ofBits .f32 0xFF800000#32 = ⊥ := by simp [Ideal.ofBits, Ideal.ieee]

theorem exp2_sub (x y : EReal) : FloatOps.exp2 (F := Ideal) (φ := .f32) (x - y) = weight x y := rfl

/-- The score of key `k` of a key block against query `b` of a query block. -/
def score (c : EReal) (q X : FVec Ideal S1x512x128 .fp8e4m3) (k b : Fin 512) : EReal :=
  (∑ d : Fin 128, X (ix3 0 k d) * q (ix3 0 b d)) * (c * log2e)

theorem pay8_at (c : EReal) (q X : FVec Ideal S1x512x128 .fp8e4m3) (k b : Fin 512) :
    k0_pay8 (F := Ideal) c q X (ix2 k b) = score c q X k b := by
  pointwise [k0_pay8, k0_pay4, k0_pay2, score, named_log2e]

theorem pay9_at (c : EReal) (q X : FVec Ideal S1x512x128 .fp8e4m3) (m : FVec Ideal S1x512 .f32) (b : Fin 512) :
    k0_pay9 (F := Ideal) c q m X (ix2 0 b) = nextMax (m (ix2 0 b)) fun k => score c q X k b := by
  pointwise [k0_pay9, nextMax, pay8_at, ofBits_neg_inf]

theorem pay12_at (c : EReal) (q X : FVec Ideal S1x512x128 .fp8e4m3) (m l : FVec Ideal S1x512 .f32) (b : Fin 512) :
    k0_pay12 (F := Ideal) c q m l X (ix2 0 b) = nextMass (m (ix2 0 b)) (l (ix2 0 b)) fun k => score c q X k b := by
  pointwise [k0_pay12, k0_pay10, k0_pay11, nextMass, pay8_at, pay9_at, exp2_sub]

theorem pay13_at (c : EReal) (q X : FVec Ideal S1x512x128 .fp8e4m3) (m : FVec Ideal S1x512 .f32)
    (a W : FVec Ideal S128x512 .f32) (b : Fin 512) (d : Fin 128) :
    k0_pay13 (F := Ideal) c q m a X W (ix2 d b)
      = nextAcc (m (ix2 0 b)) (a (ix2 d b)) (fun k => score c q X k b) fun k => W (ix2 d k) := by
  pointwise [k0_pay13, k0_pay10, k0_pay11, nextAcc, pay8_at, pay9_at, exp2_sub]

theorem pay20_at (c : EReal) (q X : FVec Ideal S1x512x128 .fp8e4m3) (k b : Fin 512) :
    k0_pay20 (F := Ideal) c q X (ix2 k b) = if k.val ≤ b.val then score c q X k b else ⊥ := by
  pointwise [k0_pay20, k0_pay4, k0_pay2, score, named_log2e, named_neg]
  have hk := k.isLt
  have hb := b.isLt
  rw [WordCmp.cmpi_sle_ofNat (by omega) (by omega)]
  by_cases h : k.val ≤ b.val <;> simp [h, Scalar.select]

theorem pay3_at (X : FVec Ideal S1x512x128 .fp8e4m3) (d : Fin 128) (k : Fin 512) :
    k0_pay3 (F := Ideal) X (ix2 d k) = X (ix3 0 k d) := by
  pointwise [k0_pay3]

theorem pay1_at (m l : FVec Ideal S1x512 .f32) (a W : FVec Ideal S128x512 .f32) (s : FVec Ideal S512x512 .f32)
    (vs : EReal) (b : Fin 512) (d : Fin 128) :
    k0_pay1 (F := Ideal) m l a s W vs (ix3 0 b d)
      = written (nextMass (m (ix2 0 b)) (l (ix2 0 b)) fun k => s (ix2 k b))
          (nextAcc (m (ix2 0 b)) (a (ix2 d b)) (fun k => s (ix2 k b)) fun k => W (ix2 d k)) vs := by
  pointwise [k0_pay1, written, nextMass, nextAcc, nextMax, ofBits_neg_inf, exp2_sub]

/-! ## Blocks of a head's keys and values -/

theorem position_lt (j : Fin 32) (k : Fin 512) : 512 * j.val + k.val < 16384 := by
  have := j.isLt
  have := k.isLt
  omega

theorem rows_at (X : FVec Ideal S1x16384x128 .fp8e4m3) (j : Fin 32) (k : Fin 512) (d : Fin 128) :
    rows (F := Ideal) X j (ix3 0 k d) = X (ix3 0 ⟨512 * j.val + k.val, position_lt j k⟩ d) := by
  pointwise [rows]

/-! ## The streaming state -/

section
variable (c : EReal) (q : FVec Ideal S1x512x128 .fp8e4m3) (K V : FVec Ideal S1x16384x128 .fp8e4m3)
variable (b : Fin 512) (d : Fin 128)

/-- The scores of key block `j` against query `b`, no key masked. -/
def scores (j : ℕ) (k : Fin 512) : EReal := if h : j < 32 then score c q (rows (F := Ideal) K ⟨j, h⟩) k b else ⊥

/-- Feature `d` of the values of key block `j`. -/
def values (j : ℕ) (k : Fin 512) : EReal := if h : j < 32 then rows (F := Ideal) V ⟨j, h⟩ (ix3 0 k d) else 0

theorem scores_eq (j : Fin 32) : scores c q K b j.val = fun k => score c q (rows (F := Ideal) K j) k b := by
  funext k
  rw [scores, dif_pos j.isLt]

theorem values_eq (j : Fin 32) : values V d j.val = fun k => rows (F := Ideal) V j (ix3 0 k d) := by
  funext k
  rw [values, dif_pos j.isLt]

/-- After `n` key blocks query `b` holds their online softmax. -/
theorem state_inv (n : ℕ) (hn : n ≤ 32) :
    Inv (scores c q K b) (values V d) n ((state (F := Ideal) c q K V n).1 (ix2 0 b))
      ((state (F := Ideal) c q K V n).2.1 (ix2 0 b)) ((state (F := Ideal) c q K V n).2.2 (ix2 d b)) := by
  induction n with
  | zero =>
    have h := Inv.zero (scores c q K b) (values V d)
    have e5 : k0_pay5 (F := Ideal) (ix2 0 b) = (⊥ : EReal) := by pointwise [k0_pay5, named_neg]
    have e6 : k0_pay6 (F := Ideal) (ix2 0 b) = (0 : EReal) := by pointwise [k0_pay6]
    have e7 : k0_pay7 (F := Ideal) (ix2 d b) = (0 : EReal) := by pointwise [k0_pay7]
    simp only [state, e5, e6, e7]
    exact h
  | succ n ih =>
    have h := (ih (by omega)).succ
    have e := state_succ (F := Ideal) c q K V ⟨n, hn⟩
    simp only at e
    rw [e, step]
    simp only
    rw [pay9_at, pay12_at, pay13_at]
    simp only [pay3_at]
    rw [scores_eq c q K b ⟨n, hn⟩, values_eq V d ⟨n, hn⟩] at h
    exact h

/-- The scores of one query, which sits at position `p`: a key after it is masked. -/
def logits (p : ℕ) (b : Fin 512) (j : Fin 16384) : EReal :=
  if j.val ≤ p then (∑ e : Fin 128, K (ix3 0 j e) * q (ix3 0 b e)) * c else ⊥

/-- What the kernel writes for query `b` of query block `i`: the causal attention over every key. -/
theorem outBlock_at (vs : EReal) (i : Fin 32) :
    outBlock (F := Ideal) c vs q K V i (ix3 0 b d)
      = mean (logits c q K (512 * i.val + b.val) b) (fun j => V (ix3 0 j d)) * vs := by
  have hb := b.isLt
  have hi := i.isLt
  rw [outBlock, pay1_at]
  simp only [pay20_at, pay3_at]
  let masked (j : ℕ) (k : Fin 512) : EReal := if 512 * j + k.val ≤ 512 * i.val + b.val then scores c q K b j k else ⊥
  have h0 : Inv masked (values V d) i.val ((state (F := Ideal) c q K V i.val).1 (ix2 0 b))
      ((state (F := Ideal) c q K V i.val).2.1 (ix2 0 b)) ((state (F := Ideal) c q K V i.val).2.2 (ix2 d b)) :=
    (state_inv c q K V b d i.val (by omega)).congr (fun j hj => funext fun k => by
      have hk := k.isLt
      exact (if_pos (by omega)).symm) (fun _ _ => rfl)
  have hm : masked i.val = fun k => if k.val ≤ b.val then score c q (rows (F := Ideal) K i) k b else ⊥ := by
    funext k
    simp only [masked, scores_eq, Nat.add_le_add_iff_left]
  have h1 := h0.succ
  rw [hm, values_eq V d i] at h1
  have h2 := h1.extend (N := 32) (by omega) fun j hj k => if_neg (by omega)
  refine written_eq_mean (J := 32) rfl h2 (fun j k hn => ?_) fun j k hn => ?_
  · have e : j.val * 512 + k.val = 512 * j.val + k.val := by omega
    simp only [masked, scores_eq, score, logits, e, rows_at]
    split
    · rw [mul_assoc]
    · rw [bot_log2e]
  · have e : j.val * 512 + k.val = 512 * j.val + k.val := by omega
    simp only [values_eq, rows_at, e]

end

end Cert.KernelIdeal.Hand
-- ==== Proof.Attention.lean ====
/-
  Causal attention over the extended reals, as both programs are shown to compute it: one array, each element a
  weighted mean of its head's values.
-/
module

public import proofs.«01_k».proof.Proof.Math

@[expose] public section

noncomputable section

namespace Cert.Online

open Idealize.ShloMosaic

/-- The packed activations: 64 heads of 128 features side by side, at each of 16384 positions. -/
abbrev Packed : Type := FVec Ideal ⟨3, ![1, 16384, 8192]⟩ .fp8e4m3

/-- One scale for each of 64 heads. -/
abbrev Scales : Type := FVec Ideal ⟨1, ![64]⟩ .f32

theorem column_lt (h : Fin 64) (e : Fin 128) : h.val * 128 + e.val < 8192 := by
  have := h.isLt
  have := e.isLt
  omega

/-- Feature `e` of head `h` at position `j`. -/
def feature (A : Packed) (h : Fin 64) (j : Fin 16384) (e : Fin 128) : EReal :=
  A (ix3 0 j ⟨h.val * 128 + e.val, column_lt h e⟩)

/-- The scale of head `h`'s scores: both inputs' scales and the reciprocal root of the feature count. -/
def scoreScale (qs ks : Scales) (h : Fin 64) : EReal := (qs (ix1 h) * ks (ix1 h)) * Ideal.ofBits .f32 0x3DB504F3#32

/-- The scores of the query at position `p` of head `h`: a key after it is masked. -/
def headLogits (x k : Packed) (qs ks : Scales) (h : Fin 64) (p j : Fin 16384) : EReal :=
  if j.val ≤ p.val then (∑ e : Fin 128, feature x h p e * feature k h j e) * scoreScale qs ks h else ⊥

/-- Feature `d` of head `h` of the attention's output at position `p`. -/
def attend (x k v : Packed) (qs ks vs : Scales) (h : Fin 64) (p : Fin 16384) (d : Fin 128) : EReal :=
  mean (headLogits x k qs ks h p) (fun j => feature v h j d) * vs (ix1 h)

/-- The attention's output, heads side by side. -/
def attention (x k v : Packed) (qs ks vs : Scales) : FVec Ideal ⟨3, ![1, 16384, 8192]⟩ .bf16 := fun i =>
  attend x k v qs ks vs ⟨(i 2).val / 128, by have h : (i 2).val < 8192 := (i 2).isLt; omega⟩ (i 1)
    ⟨(i 2).val % 128, Nat.mod_lt _ (by decide)⟩

end Cert.Online

end
-- ==== Proof.Final.lean ====
/-
  The kernel's result array over the extended reals is the causal attention: each grid point's block is, and the
  blocks cover the array.
-/
module

public import proofs.«01_k».proof.Proof.Run
public import proofs.«01_k».proof.Proof.KernelValue
public import proofs.«01_k».proof.Proof.Attention
public import Idealize.ShloMosaic.Lib.Claim

@[expose] public section

set_option maxRecDepth 16384

noncomputable section

namespace Cert.KernelIdeal.Hand

open Cert.KernelIdeal Cert.KernelIdeal.Gen Cert.Online
open Idealize.ShloMosaic Idealize.ShloMosaic.TcCoe Idealize.SL.Sem
open Idealize.ShloMosaic.Pipeline (Dat)

variable (m : (ℓ : Loc nD τ sig) → Buf (Elt Ideal) ℓ)

/-- The keys' block at point `t` is its head's keys. -/
theorem iblk_keys (c : Dev nD) (t : Fin cfg0.N) :
    (iblk m c 1 t : Vec Ideal S1x16384x128 .fp8e4m3) = headOf (V m c main_arg1) (cfg0.grid.coords t 0) := by
  have h0 : (grid0.coords t 0).val = t.val / 32 % 64 := coords_head t
  have hN : t.val < 2048 := t.isLt
  funext y
  unfold headOf
  blk_ext [iblk, V, idx t]

/-- The queries' block at point `t`: one query block of its head. -/
theorem iblk_queries (c : Dev nD) (t : Fin cfg0.N) (b : Fin 512) (e : Fin 128) (hp : 512 * (t.val % 32) + b.val < 16384)
    (he : t.val / 32 * 128 + e.val < 8192) :
    (iblk m c 0 t : Vec Ideal S1x512x128 .fp8e4m3) (ix3 0 b e)
      = (V m c main_arg0 : Vec Ideal S1x16384x8192 .fp8e4m3) (ix3 0 ⟨512 * (t.val % 32) + b.val, hp⟩ ⟨t.val / 32 * 128 + e.val, he⟩) := by
  have hN : t.val < 2048 := t.isLt
  blk_ext [iblk, V, idx t]

/-- The score scales, computed before the grid. -/
theorem iblk_scale (c : Dev nD) (t : Fin cfg0.N) (h : Fin 64) :
    entry (F := Ideal) (iblk m c 3 t) h
      = scoreScale (m ((c : Thread nD τ).loc main_arg3)) (m ((c : Thread nD τ).loc main_arg4)) h := by
  have e : (iblk m c 3 t : Vec Ideal S64 .f32) (ix1 h) = (V m c main_v2 : Vec Ideal S64 .f32) (ix1 h) := by
    blk_ext [iblk, idx t]
  rw [entry, e, scoreScale]
  entry_read
  pointwise

/-- The output scales. -/
theorem iblk_out_scale (c : Dev nD) (t : Fin cfg0.N) (h : Fin 64) :
    entry (F := Ideal) (iblk m c 4 t) h = (m ((c : Thread nD τ).loc main_arg5) : Vec Ideal S64 .f32) (ix1 h) := by
  unfold entry
  blk_ext [iblk, V, idx t]

/-- A head's columns hold its features. -/
theorem headOf_at (A : Packed) (h : Fin 64) (j : Fin 16384) (f : Fin 128) :
    headOf (F := Ideal) A h (ix3 0 j f) = feature A h j f := by
  have e : 128 * h.val + f.val = h.val * 128 + f.val := by omega
  unfold headOf feature
  simp only [e, ix3_1, ix3_2]

/-- The block's attention is the array's, the query block being the rows of position `p` and head `h`. -/
theorem outBlock_attend (x k v : Packed) (qs ks vs : Scales) (q : FVec Ideal S1x512x128 .fp8e4m3) (i : Fin 32) (b : Fin 512)
    (d : Fin 128) (h : Fin 64) (p : Fin 16384) (hp : p.val = 512 * i.val + b.val)
    (hq : ∀ f : Fin 128, q (ix3 0 b f) = feature x h p f) :
    outBlock (F := Ideal) (scoreScale qs ks h) (vs (ix1 h)) q (headOf (F := Ideal) k h) (headOf (F := Ideal) v h) i (ix3 0 b d)
      = attend x k v qs ks vs h p d := by
  rw [outBlock_at, attend, ← hp]
  have hl : logits (scoreScale qs ks h) q (headOf (F := Ideal) k h) p.val b = headLogits x k qs ks h p := by
    funext j
    unfold logits headLogits
    have e : ∀ f : Fin 128, headOf (F := Ideal) k h (ix3 0 j f) * q (ix3 0 b f) = feature x h p f * feature k h j f := fun f => by
      rw [headOf_at, hq, mul_comm]
    simp only [e]
  rw [hl]
  simp only [headOf_at]

/-- What the kernel leaves at a point's block, at the place of the array the block's index sits at. -/
theorem outAt_at (c : Dev nD) (t : Fin cfg0.N) (y : S1x512x128.Idx) (i : S1x16384x8192.Idx)
    (h1 : (i 1).val = 512 * (t.val % 32) + (y 1).val) (h2 : (i 2).val = t.val / 32 * 128 + (y 2).val) :
    outAt (F := Ideal) m c t y
      = attention (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) i := by
  idx_vars y
  idx_vars i
  obtain rfl : y0 = 0 := Subsingleton.elim _ _
  replace h1 : i1.val = 512 * (t.val % 32) + y1.val := h1
  replace h2 : i2.val = t.val / 32 * 128 + y2.val := h2
  have hN : t.val < 2048 := t.isLt
  have hb := y1.isLt
  have hd := y2.isLt
  have hq : (cfg0.grid.coords t 1).val = t.val % 32 := coords_query t
  unfold attention
  simp only [ix3_1, ix3_2]
  have hi := i2.isLt
  have hd2 : t.val / 32 % 64 = i2.val / 128 := by omega
  have hh : (cfg0.grid.coords t 0 : Fin 64) = (⟨i2.val / 128, by omega⟩ : Fin 64) := Fin.ext ((coords_head t).trans hd2)
  have he : (⟨i2.val % 128, Nat.mod_lt _ (by decide)⟩ : Fin 128) = y2 := Fin.ext (by
    show i2.val % 128 = y2.val
    omega)
  rw [he]
  unfold outAt
  rw [hh, iblk_scale, iblk_out_scale, iblk_keys, iblk_values, hh]
  refine outBlock_attend _ _ _ _ _ _ _ (cfg0.grid.coords t 1) y1 y2 _ i1 (by rw [hq]; exact h1) fun f => ?_
  have hf := f.isLt
  rw [iblk_queries m c t y1 f (by omega) (by omega), feature]
  have e1 : (⟨512 * (t.val % 32) + y1.val, by omega⟩ : Fin 16384) = i1 := Fin.ext h1.symm
  have e2 : (⟨t.val / 32 * 128 + f.val, by omega⟩ : Fin 8192) = ⟨i2.val / 128 * 128 + f.val, by omega⟩ := Fin.ext (by
    show t.val / 32 * 128 + f.val = i2.val / 128 * 128 + f.val
    omega)
  rw [e1, e2]
  rfl

/-- The result array after the run. -/
theorem final (c : Dev nD) : (dats m 0 c).arrAt 5 cfg0.N
    = attention (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 5 _ (by decide +kernel) fun t _ y => ?_
  have hN : t.val < 2048 := t.isLt
  blk_simp
  rw [after0_5]
  have h1 : (((win0_5.blk t).view.emb y) 1).val = 512 * (t.val % 32) + (y 1).val := by
    blk_simp [idx t]
    rw [Nat.mul_comm]
  have h2 : (((win0_5.blk t).view.emb y) 2).val = t.val / 32 * 128 + (y 2).val := by
    blk_simp [idx t]
  exact outAt_at m c t y _ h1 h2

/-- The run: the result array ends at the attention of the arguments, and the arguments as they were launched. -/
theorem run (ρ : Dev nD → PrngReg) : θ_run defs (onTc (τ := τ) (main (F := Ideal))) ⟨m, fun _ => 0, ρ⟩ (fun r => ∀ c : Dev nD,
      r.2.mem ((c.tc : Thread nD τ).loc main_v3)
        = attention (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h.1 c).1 5).trans (final m c), kept m r h.1 c⟩) (run_main_quiescent m ρ)

end Cert.KernelIdeal.Hand

end
-- ==== Proof.ReferenceValue.lean ====
/-
  The reference's result over the extended reals is the causal attention.
-/
module

public import proofs.«01_k».proof.Proof.Gen.ReferenceIdeal.Value
public import proofs.«01_k».proof.Proof.Attention
public import Idealize.ShloMosaic.Lib.WordCmp

@[expose] public section

set_option maxRecDepth 16384

noncomputable section

namespace Cert.ReferenceIdeal.Hand

open Cert.ReferenceIdeal Cert.ReferenceIdeal.Gen Cert.Online
open Idealize.ShloMosaic

theorem ofBits_neg_inf : Ideal.ofBits .f32 0xFF800000#32 = ⊥ := by simp [Ideal.ofBits, Ideal.ieee]

/-- The mask's selection. -/
theorem select_causal (p j : Fin 16384) (s : EReal) :
    Scalar.select (IntOp.cmpi .sle (BitVec.ofNat 32 j.val) (BitVec.ofNat 32 p.val)) s ⊥ = if j.val ≤ p.val then s else ⊥ := by
  have hj := j.isLt
  have hp := p.isLt
  rw [WordCmp.cmpi_sle_ofNat (by omega) (by omega)]
  by_cases h : j.val ≤ p.val <;> simp [h, Scalar.select]

/-- The divisor's selection. -/
theorem select_divisor (l : EReal) : Scalar.select (BitVec.ofBool (decide (l = 0))) (1 : EReal) l = divisor l := by
  by_cases h : l = 0 <;> simp [h, Scalar.select, divisor]

section
variable (x k v : Packed) (qs ks vs : Scales)

/-- The exponentials. -/
theorem pay4_at (h : Fin 64) (p j : Fin 16384) :
    k0_pay4 (F := Ideal) x k qs ks (ix3 h p j)
      = Ideal.exp (headLogits x k qs ks h p j - Finset.univ.fold max ⊥ (headLogits x k qs ks h p)) := by
  have e : headLogits x k qs ks h p = fun j => if j.val ≤ p.val then
      (∑ e : Fin 128, feature x h p e * feature k h j e) * scoreScale qs ks h else ⊥ := rfl
  rw [e]
  pointwise [k0_pay4, ofBits_neg_inf, select_causal, feature, scoreScale]

/-- Their sums. -/
theorem pay5_at (h : Fin 64) (p : Fin 16384) (z : Fin 1) :
    k0_pay5 (F := Ideal) x k qs ks (ix3 h p z) = ∑ j, k0_pay4 (F := Ideal) x k qs ks (ix3 h p j) := by
  pointwise [k0_pay5]

theorem pay6_at (h : Fin 64) (p : Fin 16384) (z : Fin 1) :
    k0_pay6 (F := Ideal) x k qs ks (ix3 h p z)
      = BitVec.ofBool (decide (k0_pay5 (F := Ideal) x k qs ks (ix3 h p z) = (0 : EReal))) := by
  pointwise [k0_pay6]

theorem pay7_at (h : Fin 64) (p : Fin 16384) (z : Fin 1) : k0_pay7 (F := Ideal) (ix3 h p z) = (1 : EReal) := by
  pointwise [k0_pay7]

theorem pay2_at (h : Fin 64) (j : Fin 16384) (e : Fin 128) : k0_pay2 (F := Ideal) v (ix3 h j e) = feature v h j e := by
  pointwise [k0_pay2, feature]

theorem pay3_at (h : Fin 64) (y z : Fin 1) : k0_pay3 (F := Ideal) vs (ix3 h y z) = vs (ix1 h) := by
  pointwise [k0_pay3]

/-- The reference's result is the attention. -/
theorem result_eq : Value.G6 (F := Ideal) x k v qs ks vs = attention x k v qs ks vs := by
  funext i
  idx_vars i
  pointwise [Value.G6, attention, attend, mean, k0_pay1, pay2_at, pay3_at, pay4_at, pay5_at, pay6_at, pay7_at, select_divisor]

end

end Cert.ReferenceIdeal.Hand

end
-- ==== Proof.lean ====
/-
  The five claims, assembled: the three frames, the sanctioned idealization (two named constants), and the equation of
  the results. The kernel's result array is the causal attention (Proof/Final.lean), and so is the reference's
  (Proof/ReferenceValue.lean); the attention is a function of the arguments, on which the two launches agree.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.KernelFrame
public import proofs.«01_k».proof.Proof.Run
public import proofs.«01_k».proof.Proof.Final
public import proofs.«01_k».proof.Proof.ReferenceValue
public import Idealize.ShloMosaic.Adequacy
public import Idealize.ShloMosaic.Init

@[expose] public section

noncomputable section

namespace Cert.Proof

open Idealize.ShloMosaic Idealize.SL.Sem Cert.Kernel

/-- Both programs end holding the causal attention of their arguments. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c => _, Cert.KernelIdeal.Hand.run m g, (θ_run _ _ _).mono (fun r hr c => ⟨(hr c).1.trans ?_, (hr c).2⟩)
    (Cert.ReferenceIdeal.Value.run m' g')⟩
  obtain ⟨h0, h1, h2, h3, h4, h5⟩ := hagree c
  rw [h0, h1, h2, h3, h4, h5]
  exact Cert.ReferenceIdeal.Hand.result_eq _ _ _ _ _ _

/-- The certificate. -/
theorem claim : Cert.Claim := ⟨Cert.Kernel.Gen.facts, Cert.KernelIdeal.Gen.facts, Cert.ReferenceIdeal.Gen.facts,
  fun m g _ => Cert.Kernel.Hand.frame m g,
  fun m g _ => Cert.KernelIdeal.Hand.frame m g,
  fun m g _ => Cert.ReferenceIdeal.Gen.frame m g,
  ⟨IdealRules.named_const.statement _ _ _ _ _ rfl, IdealRules.named_const.statement _ _ _ _ _ rfl⟩,
  algebraic⟩

end Cert.Proof

end
